-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_layers [hPre_finite_layers : Cert.Pre_finite_layers.Facts] (m : (ℓ : Loc Cert.KernelIdeal.nD Cert.KernelIdeal.τ Cert.KernelIdeal.sig) → Buf (Elt Ideal) ℓ) : Prop :=
  ∀ c : Dev Cert.KernelIdeal.nD,
    (Cert.Pre_finite_layers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_layers [hPre_finite_layers : Cert.Pre_finite_layers.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_layers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_layers [hKernelIdeal : Cert.KernelIdeal.Facts] [hPre_finite_layers : Cert.Pre_finite_layers.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_layers m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_layers [hReferenceIdeal : Cert.ReferenceIdeal.Facts] [hPre_finite_layers : Cert.Pre_finite_layers.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_layers m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_layers [hKernelIdeal : Cert.KernelIdeal.Facts] [hReferenceIdeal : Cert.ReferenceIdeal.Facts] [hPre_finite_layers : Cert.Pre_finite_layers.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_layers m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_layers : Cert.Pre_finite_layers.Facts),
    quiescent_Kernel (hKernel := hKernel)
    ∧ quiescent_KernelIdeal (hKernelIdeal := hKernelIdeal)
    ∧ quiescent_KernelIdeal_pre_finite_layers (hKernelIdeal := hKernelIdeal) (hPre_finite_layers := hPre_finite_layers)
    ∧ quiescent_ReferenceIdeal (hReferenceIdeal := hReferenceIdeal)
    ∧ quiescent_ReferenceIdeal_pre_finite_layers (hReferenceIdeal := hReferenceIdeal) (hPre_finite_layers := hPre_finite_layers)
    ∧ preserves_Kernel_KernelIdeal
    ∧ algebraic_KernelIdeal_ReferenceIdeal_pre_finite_layers (hKernelIdeal := hKernelIdeal) (hReferenceIdeal := hReferenceIdeal) (hPre_finite_layers := hPre_finite_layers)
-- ==== Pre_finite_layers.lean ====
abbrev S50000x256 : Shape := ⟨2, ![50000, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S50000 : Shape := ⟨1, ![50000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x256 .f32) (main_arg1 : FVec F S256x256 .f32) (main_arg2 : FVec F S256 .f32) (main_arg3 : FVec F S256x256 .f32) (main_arg4 : FVec F S256 .f32) (main_arg5 : FVec F S256x1 .f32) (main_arg6 : FVec F S1 .f32) (main_arg7 : IVec S50000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S50000x256 : Shape := ⟨2, ![50000, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S50000 : Shape := ⟨1, ![50000]⟩
abbrev S50x1x1000 : Shape := ⟨3, ![50, 1, 1000]⟩
abbrev S1x256 : Shape := ⟨2, ![1, 256]⟩
abbrev S1x1 : Shape := ⟨2, ![1, 1]⟩
abbrev S1x512 : Shape := ⟨2, ![1, 512]⟩
abbrev S1000x256 : Shape := ⟨2, ![1000, 256]⟩
abbrev S1x1x1000 : Shape := ⟨3, ![1, 1, 1000]⟩
abbrev S1000 : Shape := ⟨1, ![1000]⟩
abbrev S1000x1 : Shape := ⟨2, ![1000, 1]⟩
abbrev S1000x512 : Shape := ⟨2, ![1000, 512]⟩
abbrev S512 : Shape := ⟨1, ![512]⟩

abbrev nBuf : Space → Nat
  | .hbm => 15
  | .vmem => 15
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S50000, .i32⟩
  | .hbm, ⟨8, _⟩ => ⟨S50x1x1000, .i32⟩
  | .hbm, ⟨9, _⟩ => ⟨S1x256, .f32⟩
  | .hbm, ⟨10, _⟩ => ⟨S1x256, .f32⟩
  | .hbm, ⟨11, _⟩ => ⟨S1x256, .f32⟩
  | .hbm, ⟨12, _⟩ => ⟨S1x1, .f32⟩
  | .hbm, ⟨13, _⟩ => ⟨S1x512, .f32⟩
  | .hbm, ⟨14, _⟩ => ⟨S512, .f32⟩
  | .local _ .vmem, ⟨0, _⟩ => ⟨S1000x256, .f32⟩
  | .local _ .vmem, ⟨1, _⟩ => ⟨S1000x256, .f32⟩
  | .local _ .vmem, ⟨2, _⟩ => ⟨S1000x256, .f32⟩
  | .local _ .vmem, ⟨3, _⟩ => ⟨S1000x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x256, .f32⟩
  | .local _ .vmem, ⟨9, _⟩ => ⟨S1x1, .f32⟩
  | .local _ .vmem, ⟨10, _⟩ => ⟨S1x1x1000, .i32⟩
  | .local _ .vmem, ⟨11, _⟩ => ⟨S1x1x1000, .i32⟩
  | .local _ .vmem, ⟨12, _⟩ => ⟨S1x1x1000, .i32⟩
  | .local _ .vmem, ⟨13, _⟩ => ⟨S1x1x1000, .i32⟩
  | .local _ .vmem, ⟨14, _⟩ => ⟨S1x512, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c25_i32 : BitVec 32 := 25#32
  let v0 : BitVec 32 := Scalar.addi c25_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_9 (i : grid0.Coords) : Fin 3 → Nat :=
  let arg0 : BitVec 32 := BitVec.ofNat 32 (i 0).val
  let c25_i32 : BitVec 32 := 25#32
  let v0 : BitVec 32 := Scalar.addi c25_i32 arg0
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1000 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1000 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S50000x256 : Shape := ⟨2, ![50000, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S50000 : Shape := ⟨1, ![50000]⟩
abbrev S1x256 : Shape := ⟨2, ![1, 256]⟩
abbrev S_ : Shape := ⟨0, ![]⟩
abbrev S50000x1 : Shape := ⟨2, ![50000, 1]⟩
abbrev S1x1 : Shape := ⟨2, ![1, 1]⟩
abbrev S512x1 : Shape := ⟨2, ![512, 1]⟩
abbrev S512 : Shape := ⟨1, ![512]⟩

abbrev nBuf : Space → Nat
  | .hbm => 43
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S50000, .i32⟩
  | .hbm, ⟨8, _⟩ => ⟨S50000x256, .f32⟩
  | .hbm, ⟨9, _⟩ => ⟨S1x256, .f32⟩
  | .hbm, ⟨10, _⟩ => ⟨S50000x256, .f32⟩
  | .hbm, ⟨11, _⟩ => ⟨S50000x256, .f32⟩
  | .hbm, ⟨12, _⟩ => ⟨S50000x256, .f32⟩
  | .hbm, ⟨13, _⟩ => ⟨S50000x256, .f32⟩
  | .hbm, ⟨14, _⟩ => ⟨S_, .f32⟩
  | .hbm, ⟨15, _⟩ => ⟨S50000x256, .f32⟩
  | .hbm, ⟨16, _⟩ => ⟨S50000x256, .f32⟩
  | .hbm, ⟨17, _⟩ => ⟨S_, .f32⟩
  | .hbm, ⟨18, _⟩ => ⟨S50000x256, .f32⟩
  | .hbm, ⟨19, _⟩ => ⟨S50000x256, .f32⟩
  | .hbm, ⟨20, _⟩ => ⟨S50000x256, .f32⟩
  | .hbm, ⟨21, _⟩ => ⟨S50000x256, .f32⟩
  | .hbm, ⟨22, _⟩ => ⟨S1x256, .f32⟩
  | .hbm, ⟨23, _⟩ => ⟨S50000x256, .f32⟩
  | .hbm, ⟨24, _⟩ => ⟨S50000x256, .f32⟩
  | .hbm, ⟨25, _⟩ => ⟨S50000x256, .f32⟩
  | .hbm, ⟨26, _⟩ => ⟨S50000x256, .f32⟩
  | .hbm, ⟨27, _⟩ => ⟨S_, .f32⟩
  | .hbm, ⟨28, _⟩ => ⟨S50000x256, .f32⟩
  | .hbm, ⟨29, _⟩ => ⟨S50000x256, .f32⟩
  | .hbm, ⟨30, _⟩ => ⟨S_, .f32⟩
  | .hbm, ⟨31, _⟩ => ⟨S50000x256, .f32⟩
  | .hbm, ⟨32, _⟩ => ⟨S50000x256, .f32⟩
  | .hbm, ⟨33, _⟩ => ⟨S50000x256, .f32⟩
  | .hbm, ⟨34, _⟩ => ⟨S50000x1, .f32⟩
  | .hbm, ⟨35, _⟩ => ⟨S1x1, .f32⟩
  | .hbm, ⟨36, _⟩ => ⟨S50000x1, .f32⟩
  | .hbm, ⟨37, _⟩ => ⟨S50000x1, .f32⟩
  | .hbm, ⟨38, _⟩ => ⟨S_, .f32⟩
  | .hbm, ⟨39, _⟩ => ⟨S512x1, .f32⟩
  | .hbm, ⟨40, _⟩ => ⟨S50000x1, .i32⟩
  | .hbm, ⟨41, _⟩ => ⟨S512x1, .f32⟩
  | .hbm, ⟨42, _⟩ => ⟨S512, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩

abbrev nD : Nat := 1
abbrev τ : Topo := Topo.v7x

variable {F : FTy → Type} [FloatOps F]
-- ==== Proof.KernelRun.lean ====
/- What the idealized kernel's launch leaves in memory, for any float values: one grid point adds its two blocks'
   segment sums to the staged row of 512 sums (`added`), the first point starting from zeros; the points are folded in
   order (`sums`); the one write-back, after the last point, puts the fold in the output array (`array_eq`); and the
   trailing reshape reads it as a vector of 512 (`run`). -/
module

public import proofs.«01_k».proof.Proof.Gen.KernelIdeal.Frame
public import Idealize.ShloMosaic.Lib.Pipeline.Value

@[expose] public section

noncomputable section

namespace Cert.KernelIdeal.Launched

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- One grid point: to the 512 sums `acc`, the masked row sums of the first stream's block (`x0`, segment ids `x8`) and
    of the second's (`x1`, ids `x9`) are added; `x2`–`x7` are the three layers' weights and biases. -/
def added (x0 x1 : Vec F S1000x256 .f32) (x2 : Vec F S256x256 .f32) (x3 : Vec F S1x256 .f32) (x4 : Vec F S256x256 .f32)
    (x5 x6 : Vec F S1x256 .f32) (x7 : Vec F S1x1 .f32) (x8 x9 : Vec F S1x1x1000 .i32) (acc : Vec F S1x512 .f32) :
    Vec F S1x512 .f32 :=
  k0_pay1 (k0_pay10 (k0_pay7 (F := F)) (k0_pay8 x3 x5 x6 x2 x4 x0) (k0_pay9 x7) x8) (k0_pay11 x9)
    (Scalar.ofBits .f32 0x00000000#32)
    (k0_pay12 (k0_pay3 x3) (k0_pay4 x5) (k0_pay5 x6) (k0_pay6 x7) x2 x4 x1) acc

theorem origin2 : (![0, 0] : Fin 2 → Nat) = fun _ => 0 := by funext a; fin_cases a <;> rfl
theorem origin3 : (![0, 0, 0] : Fin 3 → Nat) = fun _ => 0 := by funext a; fin_cases a <;> rfl

/-- The first point's body leaves `added … zeros`: its two stores read back, whatever the buffer held. -/
theorem first_eq (c : Dev nD) (t : Fin cfg0.N) (h : t.val % 25 = 0) :
    outsAt0 m c t.val t.isLt = added (iblk m c 0 t) (iblk m c 1 t) (iblk m c 2 t) (iblk m c 3 t) (iblk m c 4 t)
      (iblk m c 5 t) (iblk m c 6 t) (iblk m c 7 t) (iblk m c 8 t) (iblk m c 9 t) (k0_pay2 (F := F)) := by
  rw [outsAt0_A m c t h]
  unfold out0_A_10
  refine (View.read_writes_eq_canon _ _ _ fun y => by apply cover0_A_10).trans ?_
  unfold kernelRun0_A
  dsimp only
  try sl_unfold_words
  rw [View.canon_cons_unit_zero (S := S1x512) origin2, View.readCov_unit_zero (S := S1x512) _ origin2]
  simp only [View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    (hs0_8 t).read_unread, (hs0_9 t).read_unread, (hs0_10 t).read_unread, View.ld_unit_zero (S := S1000x256) origin2,
    View.ld_unit_zero (S := S1x1) origin2, View.ld_unit_zero (S := S1x1x1000) origin3,
    View.ld_unit_zero (S := S1x256) origin2, View.ld_unit_zero (S := S1x512) origin2,
    View.ld_unit_zero (S := S256x256) origin2, shapeCast_self]
  rfl

/-- A later point's body leaves `added …` over what the point before left. -/
theorem later_eq (c : Dev nD) (t : Fin cfg0.N) (h : ¬t.val % 25 = 0) :
    outsAt0 m c t.val t.isLt = added (iblk m c 0 t) (iblk m c 1 t) (iblk m c 2 t) (iblk m c 3 t) (iblk m c 4 t)
      (iblk m c 5 t) (iblk m c 6 t) (iblk m c 7 t) (iblk m c 8 t) (iblk m c 9 t)
      (outsAt0 m c (t.val - 1) (Nat.lt_of_le_of_lt (Nat.sub_le _ _) t.isLt)) := by
  rw [outsAt0_B m c t h]
  unfold out0_B_10
  refine (View.read_writes_eq_canon _ _ _ fun y => by apply cover0_B_10).trans ?_
  unfold kernelRun0_B
  dsimp only
  try sl_unfold_words
  rw [View.canon_unit_zero origin2]
  simp only [View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    (hs0_8 t).read_unread, (hs0_9 t).read_unread, (hs0_10 t).read_unread, View.ld_unit_zero (S := S1000x256) origin2,
    View.ld_unit_zero (S := S1x1) origin2, View.ld_unit_zero (S := S1x1x1000) origin3,
    View.ld_unit_zero (S := S1x256) origin2, View.ld_unit_zero (S := S1x512) origin2,
    View.ld_unit_zero (S := S256x256) origin2, shapeCast_self]
  rfl

/-- The 512 sums after point `n`: the points `0 … n` folded in order from zeros. -/
def sums (c : Dev nD) : (n : ℕ) → n < cfg0.N → Vec F S1x512 .f32
  | 0, h => added (iblk m c 0 ⟨0, h⟩) (iblk m c 1 ⟨0, h⟩) (iblk m c 2 ⟨0, h⟩) (iblk m c 3 ⟨0, h⟩) (iblk m c 4 ⟨0, h⟩)
      (iblk m c 5 ⟨0, h⟩) (iblk m c 6 ⟨0, h⟩) (iblk m c 7 ⟨0, h⟩) (iblk m c 8 ⟨0, h⟩) (iblk m c 9 ⟨0, h⟩)
      (k0_pay2 (F := F))
  | n + 1, h => added (iblk m c 0 ⟨n + 1, h⟩) (iblk m c 1 ⟨n + 1, h⟩) (iblk m c 2 ⟨n + 1, h⟩) (iblk m c 3 ⟨n + 1, h⟩)
      (iblk m c 4 ⟨n + 1, h⟩) (iblk m c 5 ⟨n + 1, h⟩) (iblk m c 6 ⟨n + 1, h⟩) (iblk m c 7 ⟨n + 1, h⟩)
      (iblk m c 8 ⟨n + 1, h⟩) (iblk m c 9 ⟨n + 1, h⟩) (sums c n (Nat.lt_of_succ_lt h))

/-- The staged row after point `n` is that fold, by induction on the point. -/
theorem staged_eq (c : Dev nD) : ∀ (n : ℕ) (h : n < cfg0.N), outsAt0 m c n h = sums m c n h
  | 0, h => first_eq m c ⟨0, h⟩ rfl
  | n + 1, h => by
    have hN := lt_of_lt_of_eq h (show cfg0.N = 25 from N_0)
    refine (later_eq m c ⟨n + 1, h⟩ (by dsimp only; omega)).trans ?_
    show added _ _ _ _ _ _ _ _ _ _ (outsAt0 m c n _) = added _ _ _ _ _ _ _ _ _ _ (sums m c n _)
    rw [staged_eq c n]

theorem last_lt : 24 < cfg0.N := lt_of_lt_of_eq (by decide) (show cfg0.N = 25 from N_0).symm

/-- The output window's block is the whole array at every point. -/
theorem out_origin : ∀ t : Fin cfg0.N, win0_10.index t (0 : Fin 2) = 0 ∧ win0_10.index t (1 : Fin 2) = 0 :=
  (by decide +kernel : ∀ t : Fin grid0.N, _)

theorem last_flushes : (cfg0.win 10).flush ⟨24, last_lt⟩ = true := (flush0_10 ⟨24, last_lt⟩).mpr rfl

/-- What the output array ends holding: the sums after the last point. -/
abbrev total (c : Dev nD) : Buf (Elt F) ((c : Thread nD τ).loc main_v5) := sums m c 24 last_lt

theorem flushed_total (c : Dev nD) (t : Fin cfg0.N) (hf : (cfg0.win 10).flush t = true) :
    (dats m 0 c).flushed 10 t = ((cfg0.win 10).blk t).view.read (Elt F) (total m c) := by
  have hN := lt_of_lt_of_eq t.isLt (show cfg0.N = 25 from N_0)
  have hm : t.val % 25 = 24 := (flush0_10 t).mp hf
  obtain rfl : t = ⟨24, last_lt⟩ := Fin.ext (by dsimp only; omega)
  show (cfg0.win 10).cut (grid0.coords _) ((dats m 0 c).after 10 _) = _
  rw [after0_10, staged_eq]
  obtain ⟨e0, e1⟩ := out_origin ⟨24, last_lt⟩
  funext y
  show total m c _ = total m c (((cfg0.win 10).blk _).view.emb y)
  congr 1
  funext a
  apply Fin.ext
  match a with
  | ⟨0, _⟩ =>
    show (y 0).val = win0_10.index ⟨24, last_lt⟩ (0 : Fin 2) * 1 + 1 * (y 0).val
    rw [e0]; omega
  | ⟨1, _⟩ =>
    show (y 1).val = win0_10.index ⟨24, last_lt⟩ (1 : Fin 2) * 512 + 1 * (y 1).val
    rw [e1]; omega

/-- Every index of the output array is in the block the last point writes back. -/
theorem covered (i : S1x512.Idx) : ∃ t : Fin cfg0.N, (cfg0.win 10).flush t = true ∧ i ∈ ((cfg0.win 10).blk t).view.set := by
  refine ⟨⟨24, last_lt⟩, last_flushes, ?_⟩
  show i ∈ ((View.whole main_v5).slice (win0_10.rect ⟨24, last_lt⟩)).set
  rw [View.set_slice_whole, Rect.mem_set_unit]
  obtain ⟨e0, e1⟩ := out_origin ⟨24, last_lt⟩
  have h0 : (i 0).val < 1 := (i 0).isLt
  have h1 : (i 1).val < 512 := (i 1).isLt
  intro a
  match a with
  | ⟨0, _⟩ =>
    show win0_10.index ⟨24, last_lt⟩ (0 : Fin 2) * 1 ≤ (i 0).val ∧ (i 0).val < win0_10.index ⟨24, last_lt⟩ (0 : Fin 2) * 1 + 1
    rw [e0]; omega
  | ⟨1, _⟩ =>
    show win0_10.index ⟨24, last_lt⟩ (1 : Fin 2) * 512 ≤ (i 1).val ∧ (i 1).val < win0_10.index ⟨24, last_lt⟩ (1 : Fin 2) * 512 + 512
    rw [e1]; omega

theorem array_eq (c : Dev nD) : (dats m 0 c).arrAt 10 cfg0.N = total m c :=
  (dats m 0 c).arrAt_eq_of_cover 10 _ (fun t hf => flushed_total m c t hf) covered

/-- After the trailing reshape the result vector holds the output array's 512 sums. -/
theorem result_eq (c : Dev nD) :
    Pipeline.afterTail₀ cfgs (dats m) 0 (V0 m) [hostOps1] c main_v6
      = shapeCast S512 (total m c) shapeCasts_S1x512_S512 := by
  unfold Pipeline.afterTail₀
  simp only [hostOps1, List.flatten_cons, List.flatten_nil, List.append_nil, StableHlo.after_cons, StableHlo.after_nil]
  rw [StableHlo.reshape_result]
  show shapeCast S512 (Pipeline.withArrays spec0 c (V0 m c) (fun w => (dats m 0 c).arrAt w cfg0.N)
    (Proc.devRef .tc (Pipeline.arrRef spec0 10))) shapeCasts_S1x512_S512 = _
  rw [← array_eq m c]
  exact congrArg (fun a => shapeCast S512 a shapeCasts_S1x512_S512)
    ((dats m 0 c).withArrays_arrAt sharedIn0 (V0 m c) (A_eq m c) 10)

/-- The launch: the result vector holds the fold's 512 sums, and every argument array is as it was. -/
theorem run : θ_run defs (onTc (τ := τ) (main (F := F))) ⟨m, fun _ => 0, ρ⟩ fun r => ∀ c : Dev nD,
      r.2.mem ((c.tc : Thread nD τ).loc main_v6) = shapeCast S512 (total m c) shapeCasts_S1x512_S512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h.1 c).2 main_v6 (Pipeline.mem_restRefs_of main_v6 (by decide) (by decide))).trans (result_eq m c), h.2 c⟩)
    (θ_run_and (run_main m ρ) (unchanged m ρ))

end Cert.KernelIdeal.Launched

end
-- ==== Proof.Perceptron.lean ====
/- The mathematics of one row, over the extended reals: a three-layer perceptron with the SiLU activation written in two
   ways — `x / (1 + e^(-x))`, as the reference writes it, and `x/2 + x/2 · tanh (x/2)`, as the kernel does — gives one
   score, whenever the row and the two inner layers hold no infinity (`score_eq`). The last layer may hold anything. -/
module

public import Idealize.ShloMosaic.PureOps.Ideal
public import Idealize.ShloMosaic.Lib.IdealHost

@[expose] public section

noncomputable section

namespace Cert.Perceptron

open Idealize.ShloMosaic
open scoped BigOperators

/-! ## The activation -/

/-- SiLU as the argument times a logistic. -/
def siluLogistic (x : EReal) : EReal := x * Ideal.div 1 (1 + Ideal.exp (-x))

/-- SiLU from the halved argument and its hyperbolic tangent; `0x3F000000` is one half. -/
def siluTanh (x : EReal) : EReal :=
  x * Ideal.ofBits .f32 0x3F000000#32 + x * Ideal.ofBits .f32 0x3F000000#32 * Ideal.tanh (x * Ideal.ofBits .f32 0x3F000000#32)

theorem half_eq : Ideal.ofBits .f32 0x3F000000#32 = ((1 / 2 : ℝ) : EReal) := by
  simp [Ideal.ofBits, Ideal.ieee, -EReal.coe_mul]; norm_num

/-- Over the reals: `v + v · tanh v` at `v = r/2` is `r / (1 + e^(-r))`. -/
theorem real_silu (r : ℝ) : r * (1 / 2) + r * (1 / 2) * Real.tanh (r * (1 / 2)) = r * (1 * (1 + Real.exp (-r))⁻¹) := by
  have hq : Real.exp (-r) = Real.exp (-(r * (1 / 2))) * Real.exp (-(r * (1 / 2))) := by
    rw [← Real.exp_add]; congr 1; ring
  have hi : Real.exp (r * (1 / 2)) * Real.exp (-(r * (1 / 2))) = 1 := by
    rw [← Real.exp_add]; simp
  rw [Real.tanh_eq_sinh_div_cosh, Real.sinh_eq, Real.cosh_eq, hq]
  have ha := Real.exp_pos (r * (1 / 2))
  have hb := Real.exp_pos (-(r * (1 / 2)))
  generalize Real.exp (r * (1 / 2)) = a at *
  generalize Real.exp (-(r * (1 / 2))) = b at *
  have h1 : a + b ≠ 0 := by positivity
  have h2 : 1 + b * b ≠ 0 := by positivity
  field_simp
  linear_combination (2 * r * b) * hi

theorem siluLogistic_coe (r : ℝ) : siluLogistic r = ((r * (1 * (1 + Real.exp (-r))⁻¹) : ℝ) : EReal) := by
  have hpos : (1 + Real.exp (-r) : ℝ) ≠ 0 := by positivity
  unfold siluLogistic
  rw [← EReal.coe_neg]
  show (r : EReal) * Ideal.div 1 (1 + ((Real.exp (-r) : ℝ) : EReal)) = _
  rw [← EReal.coe_one, ← EReal.coe_add]
  unfold Ideal.div
  rw [if_neg (by exact_mod_cast hpos), ← EReal.coe_inv, ← EReal.coe_mul, ← EReal.coe_mul]

theorem siluTanh_coe (r : ℝ) :
    siluTanh r = ((r * (1 / 2) + r * (1 / 2) * Real.tanh (r * (1 / 2)) : ℝ) : EReal) := by
  unfold siluTanh
  rw [half_eq, ← EReal.coe_mul]
  show _ + _ * ((Real.tanh (r * (1 / 2)) : ℝ) : EReal) = _
  rw [← EReal.coe_mul, ← EReal.coe_add]

/-! ## Finite values -/

/-- Neither infinity. -/
def IsReal (x : EReal) : Prop := ∃ r : ℝ, x = r

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem IsReal.silu {x : EReal} : IsReal x → IsReal (siluLogistic x) := by
  rintro ⟨r, rfl⟩; exact ⟨_, siluLogistic_coe r⟩

/-- The two activations agree at every finite value. -/
theorem silu_eq {x : EReal} : IsReal x → siluTanh x = siluLogistic x := by
  rintro ⟨r, rfl⟩; rw [siluTanh_coe, siluLogistic_coe, real_silu]

/-! ## A row's score -/

variable {n : ℕ}

/-- One dense layer: the row `x` times the weights, plus the bias. -/
def dense (x : Fin n → EReal) (W : Fin n → Fin n → EReal) (b : Fin n → EReal) (j : Fin n) : EReal :=
  ∑ k, x k * W k j + b j

/-- The row's score: two dense layers, each under the activation `act`, then a weighted sum and an offset. -/
def score (act : EReal → EReal) (x : Fin n → EReal) (W1 : Fin n → Fin n → EReal) (b1 : Fin n → EReal)
    (W2 : Fin n → Fin n → EReal) (b2 w3 : Fin n → EReal) (b3 : EReal) : EReal :=
  ∑ k, act (dense (fun j => act (dense x W1 b1 j)) W2 b2 k) * w3 k + b3

theorem dense_real {x : Fin n → EReal} {W : Fin n → Fin n → EReal} {b : Fin n → EReal} (hx : ∀ k, IsReal (x k))
    (hW : ∀ k j, IsReal (W k j)) (hb : ∀ j, IsReal (b j)) (j : Fin n) : IsReal (dense x W b j) :=
  (IsReal.sum _ _ fun k => (hx k).mul (hW k j)).add (hb j)

/-- Finite rows and inner layers: both activations give one score. -/
theorem score_eq {x : Fin n → EReal} {W1 : Fin n → Fin n → EReal} {b1 : Fin n → EReal} {W2 : Fin n → Fin n → EReal}
    {b2 : Fin n → EReal} (w3 : Fin n → EReal) (b3 : EReal) (hx : ∀ k, IsReal (x k)) (hW1 : ∀ k j, IsReal (W1 k j))
    (hb1 : ∀ j, IsReal (b1 j)) (hW2 : ∀ k j, IsReal (W2 k j)) (hb2 : ∀ j, IsReal (b2 j)) :
    score siluTanh x W1 b1 W2 b2 w3 b3 = score siluLogistic x W1 b1 W2 b2 w3 b3 := by
  have h1 : (fun j => siluTanh (dense x W1 b1 j)) = fun j => siluLogistic (dense x W1 b1 j) :=
    funext fun j => silu_eq (dense_real hx hW1 hb1 j)
  unfold score
  rw [h1]
  congr 1
  refine Finset.sum_congr rfl fun k _ => ?_
  rw [silu_eq (dense_real (fun j => (dense_real hx hW1 hb1 j).silu) hW2 hb2 k)]

end Cert.Perceptron

end
-- ==== Proof.Segment.lean ====
/- Segment sums over the 50000 rows: segment `s` sums the scores of the rows whose id is `s` (`segmentSum`). The rows are
   50 blocks of 1000, and summing block `t` together with block `25 + t` for each of 25 points sums every row once. -/
module

public import proofs.«01_k».proof.Proof.Perceptron

@[expose] public section

noncomputable section

namespace Cert.Segment

open Cert.Perceptron
open scoped BigOperators

/-- A value kept where a 32-bit id is `s` and zero elsewhere. -/
def keep (id : BitVec 32) (s : ℕ) (v : EReal) : EReal := if id = BitVec.ofNat 32 s then v else 0

/-- The score of row `i`, with the activation `act`. -/
def rowScore (act : EReal → EReal) (x : Fin 50000 → Fin 256 → EReal) (W1 : Fin 256 → Fin 256 → EReal) (b1 : Fin 256 → EReal)
    (W2 : Fin 256 → Fin 256 → EReal) (b2 w3 : Fin 256 → EReal) (b3 : EReal) (i : Fin 50000) : EReal :=
  score act (x i) W1 b1 W2 b2 w3 b3

/-- Segment `s` of values `v` given a row's id. -/
def segmentSum (id : Fin 50000 → BitVec 32) (v : Fin 50000 → EReal) (s : ℕ) : EReal := ∑ i, keep (id i) s (v i)

/-- A segment number below 512 is the same read from an id as bits or as a signed number. -/
theorem eq_ofNat_iff (id : BitVec 32) (s : Fin 512) : id = BitVec.ofNat 32 s.val ↔ id.toInt = (s.val : ℤ) := by
  have hs := s.isLt
  have hv : (BitVec.ofNat 32 s.val).toInt = (s.val : ℤ) := by
    rw [BitVec.toInt_eq_toNat_of_lt] <;> rw [BitVec.toNat_ofNat, Nat.mod_eq_of_lt (by omega)]
    omega
  exact ⟨fun h => h ▸ hv, fun h => BitVec.eq_of_toInt_eq (h.trans hv.symm)⟩

/-- Row `r` of block `b`. -/
abbrev row (b : Fin 50) (r : Fin 1000) : Fin 50000 := ⟨b.val * 1000 + r.val, by omega⟩

theorem sum_blocks (f : Fin 50000 → EReal) : ∑ i, f i = ∑ b : Fin 50, ∑ r : Fin 1000, f (row b r) := by
  rw [← Fintype.sum_prod_type' (fun b r => f (row b r))]
  refine (Fintype.sum_equiv (finProdFinEquiv (m := 50) (n := 1000)) _ f fun p => ?_).symm
  congr 1
  apply Fin.ext
  show p.1.val * 1000 + p.2.val = p.2.val + 1000 * p.1.val
  omega

/-- Every row is summed once by pairing block `t` with block `25 + t`. -/
theorem sum_pairs (f : Fin 50000 → EReal) :
    ∑ i, f i = ∑ t : Fin 25, (∑ r, f (row ⟨t.val, by omega⟩ r) + ∑ r, f (row ⟨25 + t.val, by omega⟩ r)) := by
  rw [sum_blocks, Finset.sum_add_distrib]
  exact Fin.sum_univ_add (a := 25) (b := 25) fun b : Fin 50 => ∑ r : Fin 1000, f (row b r)

end Cert.Segment

end
-- ==== Proof.Windows.lean ====
/- What the kernel's windows stage at grid point `t`, as entries of the arguments: the two row streams hold the blocks
   `t` and `25 + t` of 1000 rows and of 1000 segment ids; the weights and biases are staged whole, at every point. -/
module

public import proofs.«01_k».proof.Proof.KernelRun
public import proofs.«01_k».proof.Proof.Segment
public import Idealize.ShloMosaic.Lib.StableHlo.Run
public import Idealize.ShloMosaic.Lib.Pointwise

@[expose] public section

set_option maxRecDepth 16384

noncomputable section

namespace Cert.KernelIdeal.Windows

open Cert.KernelIdeal Cert.KernelIdeal.Gen Cert.Segment Idealize.ShloMosaic Idealize.ShloMosaic.TcCoe

variable {F : FTy → Type} [FloatOps F]
variable (m : (ℓ : Loc nD τ sig) → Buf (Elt F) ℓ) (c : Dev nD)

/-! ## The reshaped arguments, as the launch finds them -/

theorem ids_reshaped :
    V m c main_v0 = shapeCast S50x1x1000 (m ((c : Thread nD τ).loc main_arg7)) shapeCasts_S50000_S50x1x1000 := by
  unfold V V0 hostOps0
  simp only [List.flatten_cons, List.flatten_nil, List.append_nil]
  after_results
  rfl

theorem b1_reshaped : V m c main_v1 = shapeCast S1x256 (m ((c : Thread nD τ).loc main_arg2)) shapeCasts_S256_S1x256 := by
  unfold V V0 hostOps0
  simp only [List.flatten_cons, List.flatten_nil, List.append_nil]
  after_results
  rfl

theorem b2_reshaped : V m c main_v2 = shapeCast S1x256 (m ((c : Thread nD τ).loc main_arg4)) shapeCasts_S256_S1x256 := by
  unfold V V0 hostOps0
  simp only [List.flatten_cons, List.flatten_nil, List.append_nil]
  after_results
  rfl

theorem w3_reshaped : V m c main_v3 = shapeCast S1x256 (m ((c : Thread nD τ).loc main_arg5)) shapeCasts_S256x1_S1x256 := by
  unfold V V0 hostOps0
  simp only [List.flatten_cons, List.flatten_nil, List.append_nil]
  after_results
  rfl

theorem b3_reshaped : V m c main_v4 = shapeCast S1x1 (m ((c : Thread nD τ).loc main_arg6)) shapeCasts_S1_S1x1 := by
  unfold V V0 hostOps0
  simp only [List.flatten_cons, List.flatten_nil, List.append_nil]
  after_results
  rfl

/-! ## The blocks' places, decided over the grid -/

theorem rows_place : ∀ t : Fin cfg0.N, win0_0.index t (0 : Fin 2) = t.val ∧ win0_0.index t (1 : Fin 2) = 0
    ∧ win0_1.index t (0 : Fin 2) = 25 + t.val ∧ win0_1.index t (1 : Fin 2) = 0 :=
  (by decide +kernel : ∀ t : Fin grid0.N, _)

theorem ids_place : ∀ t : Fin cfg0.N, (win0_8.index t (0 : Fin 3) = t.val ∧ win0_8.index t (1 : Fin 3) = 0
    ∧ win0_8.index t (2 : Fin 3) = 0) ∧ win0_9.index t (0 : Fin 3) = 25 + t.val ∧ win0_9.index t (1 : Fin 3) = 0
    ∧ win0_9.index t (2 : Fin 3) = 0 :=
  (by decide +kernel : ∀ t : Fin grid0.N, _)

theorem whole_place : ∀ t : Fin cfg0.N, ∀ a : Fin 2, win0_2.index t a = 0 ∧ win0_3.index t a = 0 ∧ win0_4.index t a = 0
    ∧ win0_5.index t a = 0 ∧ win0_6.index t a = 0 ∧ win0_7.index t a = 0 :=
  (by decide +kernel : ∀ t : Fin grid0.N, _)

/-- The first stream's block at point `t`, and the second's. -/
abbrev near (t : Fin cfg0.N) : Fin 50 := ⟨t.val, by have := lt_of_lt_of_eq t.isLt (show cfg0.N = 25 from N_0); omega⟩
abbrev far (t : Fin cfg0.N) : Fin 50 := ⟨25 + t.val, by have := lt_of_lt_of_eq t.isLt (show cfg0.N = 25 from N_0); omega⟩

/-! ## The streams -/

theorem near_rows (t : Fin cfg0.N) (r : Fin 1000) (k : Fin 256) :
    (iblk m c 0 t : Vec F S1000x256 .f32) (ix2 r k) = m ((c : Thread nD τ).loc main_arg0) (ix2 (row (near t) r) k) := by
  obtain ⟨e0, e1, -, -⟩ := rows_place t
  rw [← V_main_arg0 m c]
  unfold iblk
  rw [View.read_apply]
  show V m c main_arg0 _ = V m c main_arg0 _
  congr 1
  funext a
  apply Fin.ext
  match a with
  | ⟨0, _⟩ => show win0_0.index t (0 : Fin 2) * 1000 + 1 * r.val = t.val * 1000 + r.val; rw [e0]; omega
  | ⟨1, _⟩ => show win0_0.index t (1 : Fin 2) * 256 + 1 * k.val = k.val; rw [e1]; omega

theorem far_rows (t : Fin cfg0.N) (r : Fin 1000) (k : Fin 256) :
    (iblk m c 1 t : Vec F S1000x256 .f32) (ix2 r k) = m ((c : Thread nD τ).loc main_arg0) (ix2 (row (far t) r) k) := by
  obtain ⟨-, -, e0, e1⟩ := rows_place t
  rw [← V_main_arg0 m c]
  unfold iblk
  rw [View.read_apply]
  show V m c main_arg0 _ = V m c main_arg0 _
  congr 1
  funext a
  apply Fin.ext
  match a with
  | ⟨0, _⟩ => show win0_1.index t (0 : Fin 2) * 1000 + 1 * r.val = (25 + t.val) * 1000 + r.val; rw [e0]; omega
  | ⟨1, _⟩ => show win0_1.index t (1 : Fin 2) * 256 + 1 * k.val = k.val; rw [e1]; omega

/-- The reshaped ids at block `b`, row `r`. -/
theorem ids_at (b : Fin 50) (r : Fin 1000) :
    V m c main_v0 (ix3 b 0 r) = m ((c : Thread nD τ).loc main_arg7) (ix1 (row b r)) := by
  rw [ids_reshaped]
  pointwise []

theorem near_ids (t : Fin cfg0.N) (r : Fin 1000) :
    (iblk m c 8 t : Vec F S1x1x1000 .i32) (ix3 0 0 r) = m ((c : Thread nD τ).loc main_arg7) (ix1 (row (near t) r)) := by
  obtain ⟨⟨e0, e1, e2⟩, -⟩ := ids_place t
  rw [← ids_at m c (near t) r]
  unfold iblk
  rw [View.read_apply]
  show V m c main_v0 _ = V m c main_v0 _
  congr 1
  funext a
  apply Fin.ext
  match a with
  | ⟨0, _⟩ => show win0_8.index t (0 : Fin 3) * 1 + 1 * 0 = t.val; rw [e0]; omega
  | ⟨1, _⟩ => show win0_8.index t (1 : Fin 3) * 1 + 1 * 0 = 0; rw [e1]
  | ⟨2, _⟩ => show win0_8.index t (2 : Fin 3) * 1000 + 1 * r.val = r.val; rw [e2]; omega

theorem far_ids (t : Fin cfg0.N) (r : Fin 1000) :
    (iblk m c 9 t : Vec F S1x1x1000 .i32) (ix3 0 0 r) = m ((c : Thread nD τ).loc main_arg7) (ix1 (row (far t) r)) := by
  obtain ⟨-, e0, e1, e2⟩ := ids_place t
  rw [← ids_at m c (far t) r]
  unfold iblk
  rw [View.read_apply]
  show V m c main_v0 _ = V m c main_v0 _
  congr 1
  funext a
  apply Fin.ext
  match a with
  | ⟨0, _⟩ => show win0_9.index t (0 : Fin 3) * 1 + 1 * 0 = 25 + t.val; rw [e0]; omega
  | ⟨1, _⟩ => show win0_9.index t (1 : Fin 3) * 1 + 1 * 0 = 0; rw [e1]
  | ⟨2, _⟩ => show win0_9.index t (2 : Fin 3) * 1000 + 1 * r.val = r.val; rw [e2]; omega

/-! ## The layers -/

theorem W1_block (t : Fin cfg0.N) (k j : Fin 256) :
    (iblk m c 2 t : Vec F S256x256 .f32) (ix2 k j) = m ((c : Thread nD τ).loc main_arg1) (ix2 k j) := by
  have e := fun a => (whole_place t a).1
  rw [← V_main_arg1 m c]
  unfold iblk
  rw [View.read_apply]
  show V m c main_arg1 _ = V m c main_arg1 _
  congr 1
  funext a
  apply Fin.ext
  match a with
  | ⟨0, _⟩ => show win0_2.index t (0 : Fin 2) * 256 + 1 * k.val = k.val; rw [e]; omega
  | ⟨1, _⟩ => show win0_2.index t (1 : Fin 2) * 256 + 1 * j.val = j.val; rw [e]; omega

theorem W2_block (t : Fin cfg0.N) (k j : Fin 256) :
    (iblk m c 4 t : Vec F S256x256 .f32) (ix2 k j) = m ((c : Thread nD τ).loc main_arg3) (ix2 k j) := by
  have e := fun a => (whole_place t a).2.2.1
  rw [← V_main_arg3 m c]
  unfold iblk
  rw [View.read_apply]
  show V m c main_arg3 _ = V m c main_arg3 _
  congr 1
  funext a
  apply Fin.ext
  match a with
  | ⟨0, _⟩ => show win0_4.index t (0 : Fin 2) * 256 + 1 * k.val = k.val; rw [e]; omega
  | ⟨1, _⟩ => show win0_4.index t (1 : Fin 2) * 256 + 1 * j.val = j.val; rw [e]; omega

theorem b1_block (t : Fin cfg0.N) (j : Fin 256) :
    (iblk m c 3 t : Vec F S1x256 .f32) (ix2 0 j) = m ((c : Thread nD τ).loc main_arg2) (ix1 j) := by
  have e := fun a => (whole_place t a).2.1
  have h : V m c main_v1 (ix2 0 j) = m ((c : Thread nD τ).loc main_arg2) (ix1 j) := by rw [b1_reshaped]; pointwise []
  rw [← h]
  unfold iblk
  rw [View.read_apply]
  show V m c main_v1 _ = V m c main_v1 _
  congr 1
  funext a
  apply Fin.ext
  match a with
  | ⟨0, _⟩ => show win0_3.index t (0 : Fin 2) * 1 + 1 * 0 = 0; rw [e]
  | ⟨1, _⟩ => show win0_3.index t (1 : Fin 2) * 256 + 1 * j.val = j.val; rw [e]; omega

theorem b2_block (t : Fin cfg0.N) (j : Fin 256) :
    (iblk m c 5 t : Vec F S1x256 .f32) (ix2 0 j) = m ((c : Thread nD τ).loc main_arg4) (ix1 j) := by
  have e := fun a => (whole_place t a).2.2.2.1
  have h : V m c main_v2 (ix2 0 j) = m ((c : Thread nD τ).loc main_arg4) (ix1 j) := by rw [b2_reshaped]; pointwise []
  rw [← h]
  unfold iblk
  rw [View.read_apply]
  show V m c main_v2 _ = V m c main_v2 _
  congr 1
  funext a
  apply Fin.ext
  match a with
  | ⟨0, _⟩ => show win0_5.index t (0 : Fin 2) * 1 + 1 * 0 = 0; rw [e]
  | ⟨1, _⟩ => show win0_5.index t (1 : Fin 2) * 256 + 1 * j.val = j.val; rw [e]; omega

theorem w3_block (t : Fin cfg0.N) (k : Fin 256) :
    (iblk m c 6 t : Vec F S1x256 .f32) (ix2 0 k) = m ((c : Thread nD τ).loc main_arg5) (ix2 k 0) := by
  have e := fun a => (whole_place t a).2.2.2.2.1
  have h : V m c main_v3 (ix2 0 k) = m ((c : Thread nD τ).loc main_arg5) (ix2 k 0) := by rw [w3_reshaped]; pointwise []
  rw [← h]
  unfold iblk
  rw [View.read_apply]
  show V m c main_v3 _ = V m c main_v3 _
  congr 1
  funext a
  apply Fin.ext
  match a with
  | ⟨0, _⟩ => show win0_6.index t (0 : Fin 2) * 1 + 1 * 0 = 0; rw [e]
  | ⟨1, _⟩ => show win0_6.index t (1 : Fin 2) * 256 + 1 * k.val = k.val; rw [e]; omega

theorem b3_block (t : Fin cfg0.N) :
    (iblk m c 7 t : Vec F S1x1 .f32) (ix2 0 0) = m ((c : Thread nD τ).loc main_arg6) (ix1 0) := by
  have e := fun a => (whole_place t a).2.2.2.2.2
  have h : V m c main_v4 (ix2 0 0) = m ((c : Thread nD τ).loc main_arg6) (ix1 0) := by rw [b3_reshaped]; pointwise []
  rw [← h]
  unfold iblk
  rw [View.read_apply]
  show V m c main_v4 _ = V m c main_v4 _
  congr 1
  funext a
  apply Fin.ext
  match a with
  | ⟨0, _⟩ => show win0_7.index t (0 : Fin 2) * 1 + 1 * 0 = 0; rw [e]
  | ⟨1, _⟩ => show win0_7.index t (1 : Fin 2) * 1 + 1 * 0 = 0; rw [e]

end Cert.KernelIdeal.Windows

end
-- ==== Proof.Block.lean ====
/- What one grid point computes, at an index: to sum `s` it adds, over the 1000 rows of each of its two blocks, the
   scores of the rows whose segment id is `s` (`added_apply`). -/
module

public import proofs.«01_k».proof.Proof.KernelRun
public import proofs.«01_k».proof.Proof.Segment
public import Idealize.ShloMosaic.Lib.Pointwise

@[expose] public section

set_option maxRecDepth 16384

noncomputable section

namespace Cert.KernelIdeal.Block

open Cert.KernelIdeal Cert.KernelIdeal.Gen Cert.KernelIdeal.Launched Cert.Perceptron Cert.Segment Idealize.ShloMosaic
open scoped BigOperators

theorem select_eq_keep (id : BitVec 32) (s : ℕ) (v : EReal) :
    Scalar.select (IntOp.cmpi .eq id (BitVec.ofNat 32 s)) v 0 = keep id s v := by
  unfold keep
  by_cases h : id = BitVec.ofNat 32 s
  · simp [Scalar.select, IntOp.cmpi, h]
  · have hb : (id == BitVec.ofNat 32 s) = false := beq_eq_false_iff_ne.mpr h
    rw [if_neg h]
    show (if BitVec.ofBool (id == BitVec.ofNat 32 s) = 1#1 then v else 0) = 0
    rw [hb]
    exact if_neg (by decide)

/-- The score of row `r` of a block, from the staged blocks (biases and last weights staged as rows). -/
def blockScore (x : Vec Ideal S1000x256 .f32) (W1 : Vec Ideal S256x256 .f32) (b1 : Vec Ideal S1x256 .f32)
    (W2 : Vec Ideal S256x256 .f32) (b2 w3 : Vec Ideal S1x256 .f32) (b3 : Vec Ideal S1x1 .f32) (r : Fin 1000) : EReal :=
  score siluTanh (fun k : Fin 256 => x (ix2 r k)) (fun k j => W1 (ix2 k j)) (fun j => b1 (ix2 0 j))
    (fun k j => W2 (ix2 k j)) (fun j => b2 (ix2 0 j)) (fun k => w3 (ix2 0 k)) (b3 (ix2 0 0))

variable (x0 x1 : Vec Ideal S1000x256 .f32) (x2 : Vec Ideal S256x256 .f32) (x3 : Vec Ideal S1x256 .f32)
  (x4 : Vec Ideal S256x256 .f32) (x5 x6 : Vec Ideal S1x256 .f32) (x7 : Vec Ideal S1x1 .f32)
  (x8 x9 : Vec Ideal S1x1x1000 .i32)

/-- The first stream's row score, the offset added apart. -/
theorem first_score (r : Fin 1000) :
    k0_pay8 (F := Ideal) x3 x5 x6 x2 x4 x0 (ix2 r 0) + k0_pay9 (F := Ideal) x7 (ix2 r 0)
      = blockScore x0 x2 x3 x4 x5 x6 x7 r := by
  pointwise [k0_pay8, k0_pay9, k0_pay3, k0_pay4, k0_pay5, k0_pay6]
  rfl

/-- The second stream's row score. -/
theorem second_score (r : Fin 1000) :
    k0_pay12 (F := Ideal) (k0_pay3 x3) (k0_pay4 x5) (k0_pay5 x6) (k0_pay6 x7) x2 x4 x1 (ix2 r 0)
      = blockScore x1 x2 x3 x4 x5 x6 x7 r := by
  pointwise [k0_pay12, k0_pay3, k0_pay4, k0_pay5, k0_pay6]
  rfl

/-- The first stream's masked sum over the block's rows. -/
theorem first_sum (z : FVec Ideal S1x512 .f32) (a b : FVec Ideal S1000x1 .f32) (s : Fin 512) :
    k0_pay10 z a b x8 (ix2 0 s)
      = z (ix2 0 s) + ∑ r : Fin 1000, keep (x8 (ix3 0 0 r)) s.val (a (ix2 r 0) + b (ix2 r 0)) := by
  pointwise [k0_pay10]
  simp only [select_eq_keep]

/-- The second stream's masked sum, added to the first's and then to the sums so far. -/
theorem second_sum (z : FVec Ideal S1x512 .f32) (a : FVec Ideal S1000x1 .f32) (acc : Vec Ideal S1x512 .f32) (s : Fin 512) :
    k0_pay1 z (k0_pay11 x9) (Scalar.ofBits .f32 0x00000000#32) a acc (ix2 0 s)
      = acc (ix2 0 s) + (z (ix2 0 s) + ∑ r : Fin 1000, keep (x9 (ix3 0 0 r)) s.val (a (ix2 r 0))) := by
  pointwise [k0_pay1, k0_pay11]
  simp only [select_eq_keep]

/-- The row of zeros the first point starts from, and the one each point's two sums start from. -/
theorem zeros_apply (s : Fin 512) : k0_pay2 (F := Ideal) (ix2 0 s) = 0 := by pointwise [k0_pay2]
theorem start_apply (s : Fin 512) : k0_pay7 (F := Ideal) (ix2 0 s) = 0 := by pointwise [k0_pay7]

/-- One grid point at sum `s`. -/
theorem added_apply (acc : Vec Ideal S1x512 .f32) (s : Fin 512) :
    added (F := Ideal) x0 x1 x2 x3 x4 x5 x6 x7 x8 x9 acc (ix2 0 s)
      = acc (ix2 0 s) + (∑ r : Fin 1000, keep (x8 (ix3 0 0 r)) s.val (blockScore x0 x2 x3 x4 x5 x6 x7 r)
          + ∑ r : Fin 1000, keep (x9 (ix3 0 0 r)) s.val (blockScore x1 x2 x3 x4 x5 x6 x7 r)) := by
  unfold added
  rw [second_sum, first_sum, start_apply, zero_add]
  simp only [first_score, second_score]

end Cert.KernelIdeal.Block

end
-- ==== Proof.Result.lean ====
/- What the kernel's result holds: entry `s` is the sum, over all 50000 rows of segment `s`, of the row's score with the
   activation written through the hyperbolic tangent (`total_apply`). -/
module

public import proofs.«01_k».proof.Proof.Windows
public import proofs.«01_k».proof.Proof.Block

@[expose] public section

set_option maxRecDepth 16384

noncomputable section

namespace Cert.KernelIdeal.Result

open Cert.KernelIdeal Cert.KernelIdeal.Gen Cert.KernelIdeal.Launched Cert.KernelIdeal.Windows Cert.KernelIdeal.Block
open Cert.Perceptron Cert.Segment Idealize.ShloMosaic Idealize.ShloMosaic.TcCoe
open scoped BigOperators

variable (m : (ℓ : Loc nD τ sig) → Buf (Elt Ideal) ℓ) (c : Dev nD)

/-- Row `i`'s segment id, and its score from the arguments. -/
def ids (i : Fin 50000) : BitVec 32 := m ((c : Thread nD τ).loc main_arg7) (ix1 i)

def scores (act : EReal → EReal) (i : Fin 50000) : EReal :=
  rowScore act (fun i k => m ((c : Thread nD τ).loc main_arg0) (ix2 i k))
    (fun k j => m ((c : Thread nD τ).loc main_arg1) (ix2 k j)) (fun j => m ((c : Thread nD τ).loc main_arg2) (ix1 j))
    (fun k j => m ((c : Thread nD τ).loc main_arg3) (ix2 k j)) (fun j => m ((c : Thread nD τ).loc main_arg4) (ix1 j))
    (fun k => m ((c : Thread nD τ).loc main_arg5) (ix2 k 0)) (m ((c : Thread nD τ).loc main_arg6) (ix1 0)) i

/-- What point `t` adds to segment `s`: its two blocks' rows. -/
def part (s : Fin 512) (t : Fin cfg0.N) : EReal :=
  (∑ r, keep (ids m c (row (near t) r)) s.val (scores m c siluTanh (row (near t) r)))
    + ∑ r, keep (ids m c (row (far t) r)) s.val (scores m c siluTanh (row (far t) r))

theorem point_apply (t : Fin cfg0.N) (acc : Vec Ideal S1x512 .f32) (s : Fin 512) :
    added (F := Ideal) (iblk m c 0 t) (iblk m c 1 t) (iblk m c 2 t) (iblk m c 3 t) (iblk m c 4 t) (iblk m c 5 t)
        (iblk m c 6 t) (iblk m c 7 t) (iblk m c 8 t) (iblk m c 9 t) acc (ix2 0 s)
      = acc (ix2 0 s) + part m c s t := by
  rw [added_apply]
  unfold part ids scores rowScore blockScore
  simp only [near_rows m c t, far_rows m c t, near_ids m c t, far_ids m c t, W1_block m c t, b1_block m c t,
    W2_block m c t, b2_block m c t, w3_block m c t, b3_block m c t]

/-- After point `n`: the parts of the points `0 … n`. -/
theorem sums_apply (s : Fin 512) : ∀ (n : ℕ) (h : n < cfg0.N),
    sums m c n h (ix2 0 s) = ∑ t : Fin (n + 1), part m c s ⟨t.val, Nat.lt_of_lt_of_le t.isLt h⟩
  | 0, h => by
    rw [Fin.sum_univ_one]
    refine (point_apply m c ⟨0, h⟩ _ s).trans ?_
    rw [zeros_apply, zero_add]
    rfl
  | n + 1, h => by
    rw [Fin.sum_univ_castSucc]
    refine (point_apply m c ⟨n + 1, h⟩ _ s).trans ?_
    rw [sums_apply s n (Nat.lt_of_succ_lt h)]
    rfl

/-- The array after the launch, at segment `s`. -/
theorem total_apply (s : Fin 512) : total m c (ix2 0 s) = segmentSum (ids m c) (scores m c siluTanh) s.val := by
  unfold total segmentSum
  rw [sums_apply, sum_pairs]
  rfl

/-- The result, the array read as a vector. -/
theorem result_apply (s : Fin 512) : shapeCast S512 (total m c) shapeCasts_S1x512_S512 (ix1 s)
    = segmentSum (ids m c) (scores m c siluTanh) s.val := by
  rw [← total_apply]
  pointwise []

end Cert.KernelIdeal.Result

end
-- ==== Proof.Reference.lean ====
/- What the reference computes: entry `s` is the sum, over all 50000 rows of segment `s`, of the row's score with the
   activation written through the logistic (`result_apply`). -/
module

public import proofs.«01_k».proof.Proof.Gen.ReferenceIdeal.Run
public import proofs.«01_k».proof.Proof.Segment
public import Idealize.ShloMosaic.Lib.Routing.OpsPair
public import Idealize.ShloMosaic.Lib.Pointwise

@[expose] public section

set_option maxRecDepth 16384

noncomputable section

namespace Cert.ReferenceIdeal.Result

open Cert.ReferenceIdeal Cert.ReferenceIdeal.Gen Cert.Perceptron Cert.Segment Idealize.ShloMosaic
open scoped BigOperators

/-- A hidden layer before its activation. -/
abbrev affine (x : FVec Ideal S50000x256 .f32) (W : FVec Ideal S256x256 .f32) (b : FVec Ideal S256 .f32) :
    FVec Ideal S50000x256 .f32 :=
  addf (Host.dotGeneral dot_S50000x256_S256x256_S50000x256_1_0_0_1_n_n none x W)
    (broadcastInDim S50000x256 ![0, 1] bcast_S1x256_S50000x256_0_1 (broadcastInDim S1x256 ![1] bcast_S256_S1x256_1 b))

/-- The activation, entry by entry. -/
abbrev silu (h : FVec Ideal S50000x256 .f32) : FVec Ideal S50000x256 .f32 :=
  mulf h (Host.divf (broadcastInDim S50000x256 ![] bcast_S_S50000x256 (constant S_ .f32 0x3F800000#32))
    (addf (broadcastInDim S50000x256 ![] bcast_S_S50000x256 (constant S_ .f32 0x3F800000#32)) (Host.exp (Host.negf h))))

/-- The last layer: one number for each row. -/
abbrev last (h : FVec Ideal S50000x256 .f32) (w3 : FVec Ideal S256x1 .f32) (b3 : FVec Ideal S1 .f32) :
    FVec Ideal S50000x1 .f32 :=
  addf (Host.dotGeneral dot_S50000x256_S256x1_S50000x1_1_0_0_1_n_n none h w3)
    (broadcastInDim S50000x1 ![0, 1] bcast_S1x1_S50000x1_0_1 (broadcastInDim S1x1 ![1] bcast_S1_S1x1_1 b3))

/-- The rows' numbers `u` summed by id. -/
abbrev scattered (id : IVec S50000 32) (u : FVec Ideal S50000x1 .f32) : FVec Ideal S512x1 .f32 :=
  Host.scatterAdd scatter_S512x1_S50000x1_S50000x1_1_0_0_1
    (broadcastInDim S512x1 ![] bcast_S_S512x1 (constant S_ .f32 0x00000000#32))
    (broadcastInDim S50000x1 ![0] bcast_S50000_S50000x1_0 id) u

theorem affine_apply (x W b) (i : Fin 50000) (j : Fin 256) :
    affine x W b (ix2 i j) = dense (fun k : Fin 256 => x (ix2 i k)) (fun k j => W (ix2 k j)) (fun j => b (ix1 j)) j := by
  pointwise [affine]
  rfl

theorem silu_apply (h) (i : Fin 50000) (j : Fin 256) : silu h (ix2 i j) = siluLogistic (h (ix2 i j)) := by
  pointwise [silu]
  rfl

theorem last_apply (h w3 b3) (i : Fin 50000) :
    last h w3 b3 (ix2 i 0) = ∑ k : Fin 256, h (ix2 i k) * w3 (ix2 k 0) + b3 (ix1 0) := by
  pointwise [last]

theorem scores_apply (x W1 b1 W2 b2 w3 b3) (i : Fin 50000) :
    last (silu (affine (silu (affine x W1 b1)) W2 b2)) w3 b3 (ix2 i 0)
      = rowScore siluLogistic (fun i k => x (ix2 i k)) (fun k j => W1 (ix2 k j)) (fun j => b1 (ix1 j))
        (fun k j => W2 (ix2 k j)) (fun j => b2 (ix1 j)) (fun k => w3 (ix2 k 0)) (b3 (ix1 0)) i := by
  unfold rowScore score
  simp only [last_apply, silu_apply, affine_apply]

/-- Row `i` is added to segment `s` exactly when its id, read signed, is `s`. -/
theorem lands_iff (id : IVec S50000 32) (i : Fin 50000) (s : Fin 512) :
    scatter_S512x1_S50000x1_S50000x1_1_0_0_1.resultIdx? (ix2 i 0)
        (broadcastInDim S50000x1 ![0] bcast_S50000_S50000x1_0 id) = some (ix2 s 0)
      ↔ id (ix1 i) = BitVec.ofNat 32 s.val := by
  have h0 : scatter_S512x1_S50000x1_S50000x1_1_0_0_1.start (ix2 i 0)
      (broadcastInDim S50000x1 ![0] bcast_S50000_S50000x1_0 id) 0 = (id (ix1 i)).toInt := by
    unfold ScatterDims.start
    rw [dif_pos (show (0 : Fin 2) ∈ scatter_S512x1_S50000x1_S50000x1_1_0_0_1.scatterDimsToOperandDims by decide)]
    have hi : scatter_S512x1_S50000x1_S50000x1_1_0_0_1.siIdx (ix2 i 0)
        ⟨List.idxOf 0 scatter_S512x1_S50000x1_S50000x1_1_0_0_1.scatterDimsToOperandDims, by decide⟩ = ix2 i 0 := by
      funext b
      apply Fin.ext
      match b with
      | ⟨0, _⟩ => rfl
      | ⟨1, _⟩ => rfl
    rw [hi]
    congr 1
    pointwise []
  have h1 : scatter_S512x1_S50000x1_S50000x1_1_0_0_1.start (ix2 i 0)
      (broadcastInDim S50000x1 ![0] bcast_S50000_S50000x1_0 id) 1 = 0 := rfl
  have w0 : scatter_S512x1_S50000x1_S50000x1_1_0_0_1.window (ix2 i 0) 0 = 0 := rfl
  have w1 : scatter_S512x1_S50000x1_S50000x1_1_0_0_1.window (ix2 i 0) 1 = 0 := rfl
  refine (Routing.resultIdx?_ix2 _ _ _ _ _).trans ?_
  rw [h0, h1, w0, w1, eq_ofNat_iff]
  simp

theorem scattered_apply (id u) (s : Fin 512) :
    scattered id u (ix2 s 0) = segmentSum (fun i => id (ix1 i)) (fun i => u (ix2 i 0)) s.val := by
  show (broadcastInDim S512x1 ![] bcast_S_S512x1 (constant (F := Ideal) S_ .f32 0x00000000#32)) (ix2 s 0)
    + ∑ j ∈ Finset.univ.filter (fun j => scatter_S512x1_S50000x1_S50000x1_1_0_0_1.resultIdx? j
        (broadcastInDim S50000x1 ![0] bcast_S50000_S50000x1_0 id) = some (ix2 s 0)), u j = _
  have hz : (broadcastInDim S512x1 ![] bcast_S_S512x1 (constant (F := Ideal) S_ .f32 0x00000000#32)) (ix2 s 0) = (0 : EReal) := by
    pointwise []
  rw [hz, zero_add, Finset.sum_filter, sum_idx2]
  unfold segmentSum keep
  refine Finset.sum_congr rfl fun i _ => ?_
  rw [Fin.sum_univ_one]
  exact if_congr (lands_iff id i s) rfl rfl

/-- The reference's result at segment `s`. -/
theorem result_apply (x W1 b1 W2 b2 w3 b3 id) (s : Fin 512) :
    shapeCast S512 (scattered id (last (silu (affine (silu (affine x W1 b1)) W2 b2)) w3 b3)) shapeCasts_S512x1_S512 (ix1 s)
      = segmentSum (fun i => id (ix1 i)) (rowScore siluLogistic (fun i k => x (ix2 i k)) (fun k j => W1 (ix2 k j))
          (fun j => b1 (ix1 j)) (fun k j => W2 (ix2 k j)) (fun j => b2 (ix1 j)) (fun k => w3 (ix2 k 0)) (b3 (ix1 0))) s.val := by
  have h := scattered_apply id (last (silu (affine (silu (affine x W1 b1)) W2 b2)) w3 b3) s
  simp only [scores_apply] at h
  rw [← h]
  generalize scattered id _ = v
  pointwise []

end Cert.ReferenceIdeal.Result

end
-- ==== Proof.Finite.lean ====
/- The precondition, read: it is an «and» over every entry of the rows and of the two hidden layers of `|x| < ∞`, so it
   makes each of those entries a real number (`reals`). -/
module

public import proofs.«01_k».proof.Pre_finite_layers
public import proofs.«01_k».proof.Proof.Perceptron
public import Idealize.ShloMosaic.Lib.Pointwise

@[expose] public section

noncomputable section

namespace Cert.Pre_finite_layers

open Cert.Perceptron Idealize.ShloMosaic

/-- The function's shape conditions hold. -/
theorem facts : Facts where
  bcast_S_S50000x256 := by decide
  reducesTo_S50000x256_S_d0_1 := by decide
  h_S_ := by decide
  bcast_S_S256x256 := by decide
  reducesTo_S256x256_S_d0_1 := by decide
  bcast_S_S256 := by decide
  reducesTo_S256_S_d0 := by decide

theorem and_one {x y : BitVec 1} : IntOp.andi x y = 1#1 ↔ x = 1#1 ∧ y = 1#1 := by
  revert x y; decide

/-- An «and» of bits that is 1 has every bit 1. -/
theorem fold_and {ι : Type} [DecidableEq ι] (p : ι → BitVec 1) (s : Finset ι) :
    Finset.fold IntOp.andi 1#1 p s = 1#1 → ∀ x ∈ s, p x = 1#1 := by
  induction s using Finset.induction_on with
  | empty => exact fun _ _ h => absurd h (Finset.notMem_empty _)
  | insert a s ha ih =>
    rw [Finset.fold_insert ha, and_one]
    intro h x hx
    rcases Finset.mem_insert.1 hx with rfl | hx
    · exact h.1
    · exact ih h.2 x hx

/-- `|x| < ∞` at an extended real: it is a real. -/
theorem isReal_of_lt (x : EReal) (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  induction x using EReal.rec with
  | bot => exact absurd h (by simp [Ideal.cmp])
  | top => exact absurd h (by simp [Ideal.cmp])
  | coe r => exact ⟨r, rfl⟩

/-- One argument's check, passed: every entry is a real. -/
theorem entries {s : Shape} {axes : List (Fin s.rank)} (x : FVec Ideal s .f32)
    (hb : S_.BroadcastsInDim s (![] : Fin 0 → Fin s.rank)) (hr : s.ReducesTo axes S_) (hu : 0 < S_.numel) (j : S_.Idx)
    (h : Host.reduce IntOp.andi (cmpf .olt (Host.absf x) (broadcastInDim s ![] hb (constant S_ .f32 0x7F800000#32)))
      (constantI S_ 1 1#1) hr hu j = 1#1) (i : s.Idx) : IsReal (x i) := by
  rw [Host.reduce_eq_fold] at h
  refine isReal_of_lt _ (fold_and _ _ h i (Finset.mem_filter.2 ⟨Finset.mem_univ _, ?_⟩))
  funext a
  exact a.elim0

/-- The precondition makes the rows, both hidden layers' weights and both their biases real. -/
theorem reals [Facts] (x : FVec Ideal S50000x256 .f32) (W1 : FVec Ideal S256x256 .f32) (b1 : FVec Ideal S256 .f32)
    (W2 : FVec Ideal S256x256 .f32) (b2 : FVec Ideal S256 .f32) (w3 : FVec Ideal S256x1 .f32) (b3 : FVec Ideal S1 .f32)
    (id : IVec S50000 32) (h : fn (F := Ideal) x W1 b1 W2 b2 w3 b3 id = fun _ => 1#1) :
    (∀ i, IsReal (x i)) ∧ (∀ i, IsReal (W1 i)) ∧ (∀ i, IsReal (b1 i)) ∧ (∀ i, IsReal (W2 i)) ∧ ∀ i, IsReal (b2 i) := by
  have h' := congrFun h (fun a => a.elim0)
  unfold fn fn_part1 at h'
  obtain ⟨h', h4⟩ := and_one.1 h'
  obtain ⟨h', h3⟩ := and_one.1 h'
  obtain ⟨h', h2⟩ := and_one.1 h'
  obtain ⟨h0, h1⟩ := and_one.1 h'
  exact ⟨entries _ _ _ _ _ h0, entries _ _ _ _ _ h1, entries _ _ _ _ _ h2, entries _ _ _ _ _ h3, entries _ _ _ _ _ h4⟩

end Cert.Pre_finite_layers

end
-- ==== Proof.Equation.lean ====
/- The equation: where the rows and both hidden layers hold no infinity, the kernel's result and the reference's are the
   same vector of 512 segment sums, whatever the last layer and the ids hold (`results_eq`). -/
module

public import proofs.«01_k».proof.Proof.Result
public import proofs.«01_k».proof.Proof.Reference
public import proofs.«01_k».proof.Proof.Finite

@[expose] public section

set_option maxRecDepth 16384

noncomputable section

namespace Cert.Equation

open Cert.Perceptron Cert.Segment Cert.KernelIdeal.Launched Idealize.ShloMosaic Idealize.ShloMosaic.TcCoe

/-- The two spellings of the activation give one score on every row, hence one sum on every segment. -/
theorem segments_eq {x : Fin 50000 → Fin 256 → EReal} {W1 W2 : Fin 256 → Fin 256 → EReal} {b1 b2 : Fin 256 → EReal}
    (w3 : Fin 256 → EReal) (b3 : EReal) (id : Fin 50000 → BitVec 32) (s : ℕ) (hx : ∀ i k, IsReal (x i k))
    (hW1 : ∀ k j, IsReal (W1 k j)) (hb1 : ∀ j, IsReal (b1 j)) (hW2 : ∀ k j, IsReal (W2 k j)) (hb2 : ∀ j, IsReal (b2 j)) :
    segmentSum id (rowScore siluTanh x W1 b1 W2 b2 w3 b3) s = segmentSum id (rowScore siluLogistic x W1 b1 W2 b2 w3 b3) s := by
  have h : rowScore siluTanh x W1 b1 W2 b2 w3 b3 = rowScore siluLogistic x W1 b1 W2 b2 w3 b3 :=
    funext fun i => score_eq w3 b3 (hx i) hW1 hb1 hW2 hb2
  rw [h]

variable [Cert.Pre_finite_layers.Facts]
variable (m : (ℓ : Loc Cert.KernelIdeal.nD Cert.KernelIdeal.τ Cert.KernelIdeal.sig) → Buf (Elt Ideal) ℓ)
  (c : Dev Cert.KernelIdeal.nD)

open Cert.KernelIdeal in
/-- The kernel's result is the reference's term at the kernel's arguments. -/
theorem results_eq (h : Cert.Pre_finite_layers.fn (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) = fun _ => 1#1) :
    shapeCast S512 (Cert.ReferenceIdeal.Result.scattered (m ((c : Thread nD τ).loc main_arg7))
        (Cert.ReferenceIdeal.Result.last (Cert.ReferenceIdeal.Result.silu (Cert.ReferenceIdeal.Result.affine
          (Cert.ReferenceIdeal.Result.silu (Cert.ReferenceIdeal.Result.affine (m ((c : Thread nD τ).loc main_arg0))
            (m ((c : Thread nD τ).loc main_arg1)) (m ((c : Thread nD τ).loc main_arg2))))
          (m ((c : Thread nD τ).loc main_arg3)) (m ((c : Thread nD τ).loc main_arg4))))
          (m ((c : Thread nD τ).loc main_arg5)) (m ((c : Thread nD τ).loc main_arg6))))
        Cert.ReferenceIdeal.Gen.shapeCasts_S512x1_S512
      = shapeCast S512 (total m c) Cert.KernelIdeal.Gen.shapeCasts_S1x512_S512 := by
  obtain ⟨hx, hW1, hb1, hW2, hb2⟩ := Cert.Pre_finite_layers.reals _ _ _ _ _ _ _ _ h
  funext i
  obtain ⟨s, rfl⟩ : ∃ s : Fin 512, i = ix1 s := ⟨i 0, eq_ix1 i⟩
  refine (Cert.ReferenceIdeal.Result.result_apply _ _ _ _ _ _ _ _ s).trans ?_
  refine Eq.trans ?_ (Cert.KernelIdeal.Result.result_apply m c s).symm
  exact (segments_eq _ _ _ _ (fun _ _ => hx _) (fun _ _ => hW1 _) (fun _ => hb1 _) (fun _ _ => hW2 _) (fun _ => hb2 _)).symm

end Cert.Equation

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Init

@[expose] public section

set_option maxRecDepth 16384

noncomputable section

namespace Cert.Proof

open Idealize.ShloMosaic Idealize.SL.Sem

theorem kernel_frame : Cert.quiescent_Kernel (hKernel := Cert.Kernel.Gen.facts) :=
  fun m ρ _ => Cert.Kernel.Gen.frame m ρ

theorem ideal_frame : Cert.quiescent_KernelIdeal (hKernelIdeal := Cert.KernelIdeal.Gen.facts) :=
  fun m ρ _ => Cert.KernelIdeal.Gen.frame m ρ

theorem reference_frame : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem kernel_is_reference : Cert.algebraic_KernelIdeal_ReferenceIdeal_pre_finite_layers
    (hKernelIdeal := Cert.KernelIdeal.Gen.facts) (hReferenceIdeal := Cert.ReferenceIdeal.Gen.facts)
    (hPre_finite_layers := Cert.Pre_finite_layers.facts) := by
  intro m g m' g' hpre hargs
  refine ⟨fun c => shapeCast Cert.KernelIdeal.S512 (Cert.KernelIdeal.Launched.total m c)
    Cert.KernelIdeal.Gen.shapeCasts_S1x512_S512, Cert.KernelIdeal.Launched.run m g, ?_⟩
  refine (θ_run Cert.ReferenceIdeal.defs _ _).mono (fun r h c => ⟨(h c).1.trans ?_, (h c).2⟩)
    (Cert.ReferenceIdeal.Value.run (F := Ideal) m' g')
  obtain ⟨e0, e1, e2, e3, e4, e5, e6, e7⟩ := hargs c
  rw [e0, e1, e2, e3, e4, e5, e6, e7]
  haveI := Cert.Pre_finite_layers.facts
  exact Cert.Equation.results_eq m c (hpre c)

theorem claim : Cert.Claim :=
  ⟨Cert.Kernel.Gen.facts, Cert.KernelIdeal.Gen.facts, Cert.ReferenceIdeal.Gen.facts, Cert.Pre_finite_layers.facts,
    kernel_frame, ideal_frame, fun m ρ _ => Cert.KernelIdeal.Gen.frame m ρ, reference_frame,
    fun m ρ _ => reference_frame m ρ trivial, trivial, kernel_is_reference⟩

end Cert.Proof

end
